-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_not_zero_over_zero [hPre_not_zero_over_zero : Cert.Pre_not_zero_over_zero.Facts] (m : (ℓ : Loc Cert.KernelIdeal.nD Cert.KernelIdeal.τ Cert.KernelIdeal.sig) → Buf (Elt Ideal) ℓ) : Prop :=
  ∀ c : Dev Cert.KernelIdeal.nD,
    (Cert.Pre_not_zero_over_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_not_zero_over_zero [hPre_not_zero_over_zero : Cert.Pre_not_zero_over_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_not_zero_over_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_not_zero_over_zero [hKernelIdeal : Cert.KernelIdeal.Facts] [hPre_not_zero_over_zero : Cert.Pre_not_zero_over_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_not_zero_over_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_not_zero_over_zero [hReferenceIdeal : Cert.ReferenceIdeal.Facts] [hPre_not_zero_over_zero : Cert.Pre_not_zero_over_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_not_zero_over_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_not_zero_over_zero [hKernelIdeal : Cert.KernelIdeal.Facts] [hReferenceIdeal : Cert.ReferenceIdeal.Facts] [hPre_not_zero_over_zero : Cert.Pre_not_zero_over_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_not_zero_over_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_ReferenceIdeal_on_not_zero_over_zero [hKernelIdeal : Cert.KernelIdeal.Facts] [hReferenceIdeal : Cert.ReferenceIdeal.Facts] [hOn_not_zero_over_zero : Cert.On_not_zero_over_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![33554432]⟩ : Shape).Idx, (Cert.On_not_zero_over_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![33554432]⟩ : Shape).Idx, (Cert.On_not_zero_over_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v11) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_not_zero_over_zero : Cert.Pre_not_zero_over_zero.Facts) (hOn_not_zero_over_zero : Cert.On_not_zero_over_zero.Facts),
    quiescent_Kernel (hKernel := hKernel)
    ∧ quiescent_KernelIdeal (hKernelIdeal := hKernelIdeal)
    ∧ quiescent_KernelIdeal_pre_not_zero_over_zero (hKernelIdeal := hKernelIdeal) (hPre_not_zero_over_zero := hPre_not_zero_over_zero)
    ∧ quiescent_ReferenceIdeal (hReferenceIdeal := hReferenceIdeal)
    ∧ quiescent_ReferenceIdeal_pre_not_zero_over_zero (hReferenceIdeal := hReferenceIdeal) (hPre_not_zero_over_zero := hPre_not_zero_over_zero)
    ∧ preserves_Kernel_KernelIdeal
    ∧ algebraic_KernelIdeal_ReferenceIdeal_pre_not_zero_over_zero (hKernelIdeal := hKernelIdeal) (hReferenceIdeal := hReferenceIdeal) (hPre_not_zero_over_zero := hPre_not_zero_over_zero)
    ∧ algebraic_KernelIdeal_ReferenceIdeal_on_not_zero_over_zero (hKernelIdeal := hKernelIdeal) (hReferenceIdeal := hReferenceIdeal) (hOn_not_zero_over_zero := hOn_not_zero_over_zero)
-- ==== On_not_zero_over_zero.lean ====
abbrev S33554432 : Shape := ⟨1, ![33554432]⟩
abbrev S1 : Shape := ⟨1, ![1]⟩
abbrev S_ : Shape := ⟨0, ![]⟩

class Facts : Prop where
  bcast_S_S33554432 : S_.BroadcastsInDim S33554432 (![] : Fin 0 → Fin S33554432.rank)
  bcast_S_S1 : S_.BroadcastsInDim S1 (![] : Fin 0 → Fin S1.rank)
  bcast_S1_S33554432_0 : S1.BroadcastsInDim S33554432 (![0] : Fin 1 → Fin S33554432.rank)

variable [Facts]

def fn {F : FTy → Type} [FloatOps F] (main_arg0 : FVec F S33554432 .f32) (main_arg1 : FVec F S1 .f32) (main_arg2 : FVec F S1 .f32) : IVec S33554432 1 :=
  let main_cst : FVec F S_ .f32 := constant S_ .f32 0x00000000#32
  let main_v0 : FVec F S33554432 .f32 := broadcastInDim S33554432 ![] bcast_S_S33554432 main_cst
  let main_v1 : IVec S33554432 1 := cmpf .une main_arg0 main_v0
  let main_cst_0 : FVec F S_ .f32 := constant S_ .f32 0x00000000#32
  let main_v2 : FVec F S1 .f32 := broadcastInDim S1 ![] bcast_S_S1 main_cst_0
  let main_v3 : IVec S1 1 := cmpf .une main_arg1 main_v2
  let main_v4 : IVec S33554432 1 := broadcastInDim S33554432 ![0] bcast_S1_S33554432_0 main_v3
  let main_v5 : IVec S33554432 1 := ori main_v1 main_v4
  main_v5
-- ==== Pre_not_zero_over_zero.lean ====
abbrev S33554432 : Shape := ⟨1, ![33554432]⟩
abbrev S1 : Shape := ⟨1, ![1]⟩
abbrev S_ : Shape := ⟨0, ![]⟩

class Facts : Prop where
  bcast_S_S33554432 : S_.BroadcastsInDim S33554432 (![] : Fin 0 → Fin S33554432.rank)
  bcast_S_S1 : S_.BroadcastsInDim S1 (![] : Fin 0 → Fin S1.rank)
  bcast_S1_S33554432_0 : S1.BroadcastsInDim S33554432 (![0] : Fin 1 → Fin S33554432.rank)

variable [Facts]

def fn {F : FTy → Type} [FloatOps F] (main_arg0 : FVec F S33554432 .f32) (main_arg1 : FVec F S1 .f32) (main_arg2 : FVec F S1 .f32) : IVec S33554432 1 :=
  let main_cst : FVec F S_ .f32 := constant S_ .f32 0x00000000#32
  let main_v0 : FVec F S33554432 .f32 := broadcastInDim S33554432 ![] bcast_S_S33554432 main_cst
  let main_v1 : IVec S33554432 1 := cmpf .une main_arg0 main_v0
  let main_cst_0 : FVec F S_ .f32 := constant S_ .f32 0x00000000#32
  let main_v2 : FVec F S1 .f32 := broadcastInDim S1 ![] bcast_S_S1 main_cst_0
  let main_v3 : IVec S1 1 := cmpf .une main_arg1 main_v2
  let main_v4 : IVec S33554432 1 := broadcastInDim S33554432 ![0] bcast_S1_S33554432_0 main_v3
  let main_v5 : IVec S33554432 1 := ori main_v1 main_v4
  main_v5
-- ==== Kernel.lean ====
abbrev S33554432 : Shape := ⟨1, ![33554432]⟩
abbrev S1 : Shape := ⟨1, ![1]⟩
abbrev S2 : Shape := ⟨1, ![2]⟩
abbrev S2097152 : Shape := ⟨1, ![2097152]⟩

abbrev nBuf : Space → Nat
  | .hbm => 5
  | .vmem => 4
  | .smem => 1
  | _ => 0

abbrev bufTy : (tb : Table) → Fin (tcTables nBuf tb) → BufTy
  | .hbm, ⟨0, _⟩ => ⟨S33554432, .f32⟩
  | .hbm, ⟨1, _⟩ => ⟨S1, .f32⟩
  | .hbm, ⟨2, _⟩ => ⟨S1, .f32⟩
  | .hbm, ⟨3, _⟩ => ⟨S2, .f32⟩
  | .hbm, ⟨4, _⟩ => ⟨S33554432, .f32⟩
  | .local _ .vmem, ⟨0, _⟩ => ⟨S2097152, .f32⟩
  | .local _ .vmem, ⟨1, _⟩ => ⟨S2097152, .f32⟩
  | .local _ .vmem, ⟨2, _⟩ => ⟨S2097152, .f32⟩
  | .local _ .vmem, ⟨3, _⟩ => ⟨S2097152, .f32⟩
  | .local _ .smem, ⟨0, _⟩ => ⟨S2, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2097152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2097152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S33554432 : Shape := ⟨1, ![33554432]⟩
abbrev S1 : Shape := ⟨1, ![1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S1, .f32⟩
  | .hbm, ⟨2, _⟩ => ⟨S1, .f32⟩
  | .hbm, ⟨3, _⟩ => ⟨S33554432, .f32⟩
  | .hbm, ⟨4, _⟩ => ⟨S33554432, .i1⟩
  | .hbm, ⟨5, _⟩ => ⟨S33554432, .f32⟩
  | .hbm, ⟨6, _⟩ => ⟨S33554432, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S33554432, .f32⟩
  | .hbm, ⟨11, _⟩ => ⟨S33554432, .f32⟩
  | .hbm, ⟨12, _⟩ => ⟨S_, .f32⟩
  | .hbm, ⟨13, _⟩ => ⟨S33554432, .f32⟩
  | .hbm, ⟨14, _⟩ => ⟨S33554432, .f32⟩
  | .hbm, ⟨15, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Weight.lean ====
/-
  The weight of one loss element over the extended reals, as the kernel writes it and as the reference writes it, and
  where the two agree: everywhere but at `0 / 0`.
-/
module

public import Idealize.ShloMosaic.PureOps.Ideal

@[expose] public section

noncomputable section

namespace Cert.Weight

open Idealize.ShloMosaic

/-- The weight in the kernel's spelling: `x * (m * e)` above the threshold `e`, else `1 - x / e`. -/
def kernelWeight (x e m : EReal) : EReal := if e < x then x * (m * e) else 1 - Ideal.div x e

/-- The weight in the reference's spelling: `x * m * e` above the threshold `e`, else `-x / e + 1`. -/
def referenceWeight (x e m : EReal) : EReal := if e < x then x * m * e else Ideal.div (-x) e + 1

/-- Off `0 / 0` and at or below the threshold, the two spellings of `1 - x / e` agree. For `e ≠ 0` the quotient is a
    product and a sign moves out of it. For `e = 0` the element is negative: its quotient is `⊥`, that of its negation
    is `⊤`, and both results are `⊤`. -/
theorem one_sub_div (x e : EReal) (hle : ¬ e < x) (h : x ≠ 0 ∨ e ≠ 0) :
    1 - Ideal.div x e = Ideal.div (-x) e + 1 := by
  unfold Ideal.div
  by_cases he : e = 0
  · subst he
    have hx : x < 0 := lt_of_le_of_ne (not_lt.mp hle) (h.resolve_right (fun k => k rfl))
    have hn : (0 : EReal) < -x := by simpa using EReal.neg_lt_neg_iff.mpr hx
    rw [if_pos rfl, if_pos rfl, if_neg hle, if_pos hn]
    rfl
  · rw [if_neg he, if_neg he, EReal.neg_mul, sub_eq_add_neg, add_comm]

/-- Off `0 / 0` the kernel's weight is the reference's. -/
theorem kernel_eq_reference (x e m : EReal) (h : x ≠ 0 ∨ e ≠ 0) : kernelWeight x e m = referenceWeight x e m := by
  unfold kernelWeight referenceWeight
  by_cases hgt : e < x
  · rw [if_pos hgt, if_pos hgt, mul_assoc]
  · rw [if_neg hgt, if_neg hgt, one_sub_div x e hgt h]

/-- The exception is needed: at `x = e = 0` the kernel's weight is `⊤` and the reference's is `⊥`, since the quotient
    `0 / 0` is given the value `⊥`, whatever the numerator's sign was. -/
theorem ne_at_zero (m : EReal) : kernelWeight 0 0 m = ⊤ ∧ referenceWeight 0 0 m = ⊥ := by
  constructor
  · simp [kernelWeight, Ideal.div, sub_eq_add_neg]
    rfl
  · simp [referenceWeight, Ideal.div]

/-- So the condition is exact: the two weights agree if and only if the quotient is not `0 / 0`. -/
theorem eq_iff (x e m : EReal) : kernelWeight x e m = referenceWeight x e m ↔ (x ≠ 0 ∨ e ≠ 0) := by
  refine ⟨fun h => ?_, kernel_eq_reference x e m⟩
  by_contra hc
  obtain ⟨rfl, rfl⟩ : x = 0 ∧ e = 0 := by simpa using hc
  rw [(ne_at_zero m).1, (ne_at_zero m).2] at h
  exact absurd h (by simp)

end Cert.Weight

end
-- ==== Proof.KernelValue.lean ====
/-
  What the idealized kernel computes: after the run the result array holds, at each of its 33554432 indices, the weight of
  the loss element there, in the kernel's own spelling.
-/
module

public import proofs.«01_k».proof.Proof.Gen.KernelIdeal.Value
public import proofs.«01_k».proof.Proof.Weight
public import Idealize.ShloMosaic.Lib.Pipeline.ValueKit
public import Idealize.ShloMosaic.Lib.Pointwise
public import Idealize.ShloMosaic.Lib.IdealHost

@[expose] public section

noncomputable section

namespace Cert.KernelIdeal.WeightValue

open Cert.KernelIdeal Cert.KernelIdeal.Gen Cert.Weight
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The one index of a vector of length one. -/
abbrev only : S1.Idx := ix1 (0 : Fin 1)

/-- The function of the three arguments that the result array is shown to hold. -/
def weights (loss : FVec Ideal S33554432 .f32) (eta mask : FVec Ideal S1 .f32) : FVec Ideal S33554432 .f32 :=
  fun i => kernelWeight (loss i) (eta only) (mask only)

/-- The body's payload at one index of a block: the weight of the block's element there. -/
theorem pay_apply (e mk : Ideal .f32) (x : FVec Ideal S2097152 .f32) (y : S2097152.Idx) :
    k0_pay1 (F := Ideal) e mk x y = kernelWeight (x y) e mk := by
  unfold k0_pay1 kernelWeight
  pointwise

/-- The region finds the pair `(eta, mask)` in the staged word array: the host's concatenation. -/
theorem V_pair (c : Dev nD) : V m c main_v0 = concatenate S2 0
    [⟨S1, m ((c : Thread nD τ).loc main_arg1)⟩, ⟨S1, m ((c : Thread nD τ).loc main_arg2)⟩] concatenates_S1_S1_S2_d0 := by
  unfold V hostOps0
  after_results

/-- The block indices, decided over the 16 grid points: the word window stays at its one block, and the loss and the
    result windows are at block `t` at point `t`. -/
theorem idx_facts : ∀ t : Fin cfg0.N, win0_0.index t 0 = 0 ∧ win0_1.index t 0 = t.val ∧ win0_2.index t 0 = t.val :=
  (by decide +kernel : ∀ t : Fin grid0.N, win0_0.index t 0 = 0 ∧ win0_1.index t 0 = t.val ∧ win0_2.index t 0 = t.val)

/-- A word of the pair, as the body finds it staged at any grid point, is the word of the host's concatenation. -/
theorem pair_apply (c : Dev nD) (t : Fin cfg0.N) (j : S2.Idx) : iblk m c 0 t j = V m c main_v0 j := by
  blk_ext [iblk, (idx_facts t).1]

/-- The staged word at position 0 is `eta`. -/
theorem word_0 (c : Dev nD) (t : Fin cfg0.N) (j : S2.Idx) (hj : (j 0).val = 0) :
    iblk m c 0 t j = m ((c : Thread nD τ).loc main_arg1) only := by
  rw [pair_apply, V_pair]
  refine concatenate_pair_apply_left (t := S2) (s₁ := S1) (s₂ := S1) 0 _ _ _ j rfl only fun b => ?_
  match b with
  | ⟨0, _⟩ => exact hj.symm

/-- The staged word at position 1 is `mask`. -/
theorem word_1 (c : Dev nD) (t : Fin cfg0.N) (j : S2.Idx) (hj : (j 0).val = 1) :
    iblk m c 0 t j = m ((c : Thread nD τ).loc main_arg2) only := by
  rw [pair_apply, V_pair]
  refine concatenate_pair_apply_right (t := S2) (s₁ := S1) (s₂ := S1) 0 _ _ _ j rfl rfl only (fun b hb => ?_) ?_
  · match b with
    | ⟨0, _⟩ => exact absurd rfl hb
  · exact hj.symm

/-- What the body leaves in the result's staging buffer at point `t`: the weights of its loss block. -/
theorem outsAt_apply (c : Dev nD) (t : Fin cfg0.N) (y : S2097152.Idx) : outsAt0 m c t y
    = kernelWeight (iblk m c 1 t y) (m ((c : Thread nD τ).loc main_arg1) only) (m ((c : Thread nD τ).loc main_arg2) only) := by
  unfold outsAt0
  frame_out
  rw [pay_apply, View.ld_apply, View.ld_apply, word_0 m c t _ rfl, word_1 m c t _ rfl]

/-- The result's blocks tile its array: every block index is some point's, and every point writes back. -/
theorem covers : (cfg0.win 2).Covers := by decide +kernel

/-- An element of the loss block at point `t` is the loss element `t` blocks further on. -/
theorem loss_apply (c : Dev nD) (t : Fin cfg0.N) (y : S2097152.Idx) (i : S33554432.Idx)
    (hi : (i 0).val = t.val * 2097152 + (y 0).val) : iblk m c 1 t y = m ((c : Thread nD τ).loc main_arg0) i := by
  rw [← V_main_arg0 m c]
  blk_ext [iblk, (idx_facts t).2.1]

/-- The place in the result of element `y` of the block that point `t` writes back. -/
theorem place (t : Fin cfg0.N) (y : ((cfg0.win 2).xblock (cfg0.grid.coords t)).Idx) :
    ((((cfg0.win 2).blk t).view.emb y) 0 : Nat) = t.val * 2097152 + (y 0).val := by
  refine (Pipeline.Window.rect_emb_val _ t y 0).trans ?_
  exact congrArg (fun n => n * 2097152 + (y 0).val) (idx_facts t).2.2

/-- The result array after the run: the weights of the arguments, at every index. -/
theorem final (c : Dev nD) : (dats m 0 c).arrAt 2 cfg0.N = weights (m ((c : Thread nD τ).loc main_arg0))
    (m ((c : Thread nD τ).loc main_arg1)) (m ((c : Thread nD τ).loc main_arg2)) := by
  refine (dats m 0 c).arrAt_eq_of_covers 2 _ covers fun t hf y => ?_
  rw [after0_2]
  refine (eq_of_heq (cast_heq _ _)).trans ?_
  exact (outsAt_apply m c t _).trans
    (congrArg (fun x => kernelWeight x _ _) (loss_apply m c t _ (((cfg0.win 2).blk t).view.emb y) (place t y)))

/-- The run, read: the result array at the weights of the arguments, the arguments unchanged. -/
theorem run : θ_run defs (onTc (τ := τ) (main (F := Ideal))) ⟨m, fun _ => 0, ρ⟩ fun r => ∀ c : Dev nD,
      r.2.mem ((c : Thread nD τ).loc main_v1) = weights (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.WeightValue

end
-- ==== Proof.ReferenceValue.lean ====
/-
  What the idealized reference computes: its result holds, at each index, the weight of the loss element there in the
  reference's spelling.
-/
module

public import proofs.«01_k».proof.Proof.Gen.ReferenceIdeal.Run
public import proofs.«01_k».proof.Proof.Weight
public import Idealize.ShloMosaic.Lib.Pointwise
public import Idealize.ShloMosaic.Lib.IdealHost

@[expose] public section

noncomputable section

namespace Cert.ReferenceIdeal.WeightValue

open Cert.ReferenceIdeal Cert.ReferenceIdeal.Gen Cert.Weight
open Idealize.ShloMosaic Idealize.ShloMosaic.TcCoe Idealize.SL.Sem

/-- The one index of a vector of length one. -/
abbrev only : S1.Idx := ix1 (0 : Fin 1)

/-- The function of the three arguments that the reference's result is shown to be. -/
def weights (loss : FVec Ideal S33554432 .f32) (eta mask : FVec Ideal S1 .f32) : FVec Ideal S33554432 .f32 :=
  fun i => referenceWeight (loss i) (eta only) (mask only)

/-- The composed term of the reference's operations, read at every index. -/
theorem term_eq (loss : FVec Ideal S33554432 .f32) (eta mask : FVec Ideal S1 .f32) :
    select (cmpf .ogt loss (broadcastInDim S33554432 ![0] bcast_S1_S33554432_0 eta))
      (mulf (mulf loss (broadcastInDim S33554432 ![0] bcast_S1_S33554432_0 mask))
        (broadcastInDim S33554432 ![0] bcast_S1_S33554432_0 eta))
      (addf (Host.divf (Host.negf loss) (broadcastInDim S33554432 ![0] bcast_S1_S33554432_0 eta))
        (broadcastInDim S33554432 ![] bcast_S_S33554432 (constant S_ .f32 0x3F800000#32))) = weights loss eta mask := by
  funext i
  unfold weights referenceWeight
  pointwise

/-- The run, read: the result at the weights of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v11) = weights (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (term_eq _ _ _), (h c).2⟩) (Value.run (F := Ideal) m ρ)

end Cert.ReferenceIdeal.WeightValue

end
-- ==== Proof.Domain.lean ====
/-
  The precondition and the mask read at an index: the bit is set exactly where the quotient `loss / eta` is not `0 / 0`.
-/
module

public import proofs.«01_k».proof.Proof.Gen.Pre_not_zero_over_zero
public import proofs.«01_k».proof.Proof.Gen.On_not_zero_over_zero
public import Idealize.ShloMosaic.PureOps.Ideal
public import Idealize.ShloMosaic.Lib.Pointwise
public import Idealize.ShloMosaic.Lib.IdealHost

@[expose] public section

noncomputable section

open Idealize.ShloMosaic

namespace Cert.On_not_zero_over_zero

/-- The mask at index `i` is set if and only if the loss element there or `eta` is not zero. -/
theorem fn_apply_iff (loss : FVec Ideal S33554432 .f32) (eta mask : FVec Ideal S1 .f32) (i : S33554432.Idx) :
    fn loss eta mask i = 1#1 ↔ ((loss i : EReal) ≠ 0 ∨ (eta (ix1 (0 : Fin 1)) : EReal) ≠ 0) := by
  unfold fn
  pointwise
  by_cases hx : (loss i : EReal) = 0 <;> by_cases he : (eta (ix1 (0 : Fin 1)) : EReal) = 0 <;>
    simp [hx, he, IntOp.ori]

end Cert.On_not_zero_over_zero

namespace Cert.Pre_not_zero_over_zero

/-- The precondition's function is the mask's. -/
theorem fn_eq_on (loss : FVec Ideal S33554432 .f32) (eta mask : FVec Ideal S1 .f32) :
    fn loss eta mask = Cert.On_not_zero_over_zero.fn loss eta mask := rfl

end Cert.Pre_not_zero_over_zero

end
-- ==== Proof.lean ====
/-
  The proof of the certificate's claims: the frames, the preservation, and the two value claims, that the kernel's result
  is the reference's over the extended reals, assembled from the values of the two programs (Proof/KernelValue.lean,
  Proof/ReferenceValue.lean), the algebra of one element (Proof/Weight.lean) and the precondition and mask read at an
  index (Proof/Domain.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_not_zero_over_zero
public import proofs.«01_k».proof.Proof.Gen.On_not_zero_over_zero
public import proofs.«01_k».proof.Proof.KernelValue
public import proofs.«01_k».proof.Proof.ReferenceValue
public import proofs.«01_k».proof.Proof.Domain
public import Idealize.ShloMosaic.Lib.Quiescent

@[expose] public section

noncomputable section

namespace Cert.Proof

open Idealize.ShloMosaic Idealize.ShloMosaic.TcCoe Idealize.SL.Sem

/-- The kernel as printed terminates without fault, keeps its arguments and leaves every counter at zero. -/
theorem frame_kernel : Cert.quiescent_Kernel := fun m ρ _ => Cert.Kernel.Gen.frame m ρ

/-- The same of the idealized kernel, from any arguments. -/
theorem frame_kernelIdeal : Cert.quiescent_KernelIdeal := fun m ρ _ => Cert.KernelIdeal.Gen.frame m ρ

/-- The same of the idealized reference, from any arguments; it declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.WeightValue.run m ρ)

/-- The kernel's weights and the reference's, of equal arguments, are equal wherever the mask is set. -/
theorem weights_eq (loss : FVec Ideal Cert.KernelIdeal.S33554432 .f32) (eta mask : FVec Ideal Cert.KernelIdeal.S1 .f32)
    (i : Cert.KernelIdeal.S33554432.Idx) (h : Cert.On_not_zero_over_zero.fn (F := Ideal) loss eta mask i = 1#1) :
    Cert.ReferenceIdeal.WeightValue.weights loss eta mask i = Cert.KernelIdeal.WeightValue.weights loss eta mask i :=
  (Cert.Weight.kernel_eq_reference _ _ _ ((Cert.On_not_zero_over_zero.fn_apply_iff loss eta mask i).mp h)).symm

/-- With no precondition: from equal arguments the kernel's result and the reference's are equal at every element whose
    quotient `loss / eta` is not `0 / 0`. -/
theorem algebraic_on : Cert.algebraic_KernelIdeal_ReferenceIdeal_on_not_zero_over_zero := by
  intro m ρ m' ρ' _ hagree
  refine ⟨fun c => Cert.KernelIdeal.WeightValue.weights (m ((c : Thread Cert.KernelIdeal.nD Cert.KernelIdeal.τ).loc Cert.KernelIdeal.main_arg0))
    (m ((c : Thread Cert.KernelIdeal.nD Cert.KernelIdeal.τ).loc Cert.KernelIdeal.main_arg1)) (m ((c : Thread Cert.KernelIdeal.nD Cert.KernelIdeal.τ).loc Cert.KernelIdeal.main_arg2)), ?_, ?_⟩
  · exact (θ_run Cert.KernelIdeal.defs _ _).mono (fun _ h c => ⟨fun i _ => congrFun (h c).1 i, (h c).2⟩)
      (Cert.KernelIdeal.WeightValue.run m ρ)
  · refine (θ_run Cert.ReferenceIdeal.defs _ _).mono (fun _ h c => ⟨fun i hi => ?_, (h c).2⟩)
      (Cert.ReferenceIdeal.WeightValue.run m' ρ')
    refine (congrFun (h c).1 i).trans ?_
    rw [(hagree c).1, (hagree c).2.1, (hagree c).2.2]
    exact weights_eq _ _ _ i hi

/-- Where no element's quotient is `0 / 0`, the kernel's whole result is the reference's. -/
theorem algebraic_pre : Cert.algebraic_KernelIdeal_ReferenceIdeal_pre_not_zero_over_zero := by
  intro m ρ m' ρ' hpre hagree
  refine ⟨fun c => Cert.KernelIdeal.WeightValue.weights (m ((c : Thread Cert.KernelIdeal.nD Cert.KernelIdeal.τ).loc Cert.KernelIdeal.main_arg0))
    (m ((c : Thread Cert.KernelIdeal.nD Cert.KernelIdeal.τ).loc Cert.KernelIdeal.main_arg1)) (m ((c : Thread Cert.KernelIdeal.nD Cert.KernelIdeal.τ).loc Cert.KernelIdeal.main_arg2)),
    Cert.KernelIdeal.WeightValue.run m ρ, ?_⟩
  refine (θ_run Cert.ReferenceIdeal.defs _ _).mono (fun _ h c => ⟨(h c).1.trans ?_, (h c).2⟩)
    (Cert.ReferenceIdeal.WeightValue.run m' ρ')
  rw [(hagree c).1, (hagree c).2.1, (hagree c).2.2]
  exact funext fun i => weights_eq _ _ _ i
    ((congrFun (Cert.Pre_not_zero_over_zero.fn_eq_on _ _ _) i).symm.trans (congrFun (hpre c) i))

/-- All the claims. -/
theorem claim : Cert.Claim :=
  ⟨Cert.Kernel.Gen.facts, Cert.KernelIdeal.Gen.facts, Cert.ReferenceIdeal.Gen.facts,
    Cert.Pre_not_zero_over_zero.Gen.facts, Cert.On_not_zero_over_zero.Gen.facts,
    frame_kernel, frame_kernelIdeal, fun m ρ _ => frame_kernelIdeal m ρ trivial,
    frame_referenceIdeal, fun m ρ _ => frame_referenceIdeal m ρ trivial,
    trivial, algebraic_pre, algebraic_on⟩

end Cert.Proof

end
